-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tokens_in_vocab [hPre_tokens_in_vocab : Cert.Pre_tokens_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_vocab [hPre_tokens_in_vocab : Cert.Pre_tokens_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tokens_in_vocab [hKernelIdeal : Cert.KernelIdeal.Facts] [hPre_tokens_in_vocab : Cert.Pre_tokens_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_in_vocab m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tokens_in_vocab [hReferenceIdeal : Cert.ReferenceIdeal.Facts] [hPre_tokens_in_vocab : Cert.Pre_tokens_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_tokens_in_vocab [hKernelIdeal : Cert.KernelIdeal.Facts] [hReferenceIdeal : Cert.ReferenceIdeal.Facts] [hPre_tokens_in_vocab : Cert.Pre_tokens_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_in_vocab m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_tokens_in_vocab : Cert.Pre_tokens_in_vocab.Facts),
    quiescent_Kernel (hKernel := hKernel)
    ∧ quiescent_KernelIdeal (hKernelIdeal := hKernelIdeal)
    ∧ quiescent_KernelIdeal_pre_tokens_in_vocab (hKernelIdeal := hKernelIdeal) (hPre_tokens_in_vocab := hPre_tokens_in_vocab)
    ∧ quiescent_ReferenceIdeal (hReferenceIdeal := hReferenceIdeal)
    ∧ quiescent_ReferenceIdeal_pre_tokens_in_vocab (hReferenceIdeal := hReferenceIdeal) (hPre_tokens_in_vocab := hPre_tokens_in_vocab)
    ∧ preserves_Kernel_KernelIdeal
    ∧ algebraic_KernelIdeal_ReferenceIdeal_pre_tokens_in_vocab (hKernelIdeal := hKernelIdeal) (hReferenceIdeal := hReferenceIdeal) (hPre_tokens_in_vocab := hPre_tokens_in_vocab)
-- ==== Pre_tokens_in_vocab.lean ====
abbrev S1024x1024 : Shape := ⟨2, ![1024, 1024]⟩
abbrev S1024x1024x20 : Shape := ⟨3, ![1024, 1024, 20]⟩
abbrev S21x44 : Shape := ⟨2, ![21, 44]⟩
abbrev S1024x64 : Shape := ⟨2, ![1024, 64]⟩
abbrev S_ : Shape := ⟨0, ![]⟩

class Facts : Prop where
  bcast_S_S1024x1024 : S_.BroadcastsInDim S1024x1024 (![] : Fin 0 → Fin S1024x1024.rank)

variable [Facts]

def fn {F : FTy → Type} [FloatOps F] (main_arg0 : IVec S1024x1024 32) (main_arg1 : FVec F S1024x1024x20 .f32) (main_arg2 : FVec F S21x44 .f32) (main_arg3 : FVec F S1024x64 .f32) : IVec S1024x1024 1 :=
  let main_c : IVec S_ 32 := constantI S_ 32 0#32
  let main_v0 : IVec S1024x1024 32 := broadcastInDim S1024x1024 ![] bcast_S_S1024x1024 main_c
  let main_v1 : IVec S1024x1024 1 := cmpi .sge main_arg0 main_v0
  let main_c_0 : IVec S_ 32 := constantI S_ 32 21#32
  let main_v2 : IVec S1024x1024 32 := broadcastInDim S1024x1024 ![] bcast_S_S1024x1024 main_c_0
  let main_v3 : IVec S1024x1024 1 := cmpi .slt main_arg0 main_v2
  let main_v4 : IVec S1024x1024 1 := andi main_v1 main_v3
  main_v4
-- ==== Kernel.lean ====
abbrev S1024x1024 : Shape := ⟨2, ![1024, 1024]⟩
abbrev S1024x1024x20 : Shape := ⟨3, ![1024, 1024, 20]⟩
abbrev S21x44 : Shape := ⟨2, ![21, 44]⟩
abbrev S1024x64 : Shape := ⟨2, ![1024, 64]⟩
abbrev S1024x512x2 : Shape := ⟨3, ![1024, 512, 2]⟩
abbrev S1024x512 : Shape := ⟨2, ![1024, 512]⟩
abbrev S1024x32x16 : Shape := ⟨3, ![1024, 32, 16]⟩
abbrev S1024x32x640 : Shape := ⟨3, ![1024, 32, 640]⟩
abbrev S32x2048 : Shape := ⟨2, ![32, 2048]⟩
abbrev S_ : Shape := ⟨0, ![]⟩
abbrev S128x128 : Shape := ⟨2, ![128, 128]⟩
abbrev S1 : Shape := ⟨1, ![1]⟩
abbrev S2 : Shape := ⟨1, ![2]⟩
abbrev S20x20 : Shape := ⟨2, ![20, 20]⟩
abbrev S1024x32x2048 : Shape := ⟨3, ![1024, 32, 2048]⟩
abbrev S32x32x16 : Shape := ⟨3, ![32, 32, 16]⟩
abbrev S32x32x640 : Shape := ⟨3, ![32, 32, 640]⟩
abbrev S32x32x2048 : Shape := ⟨3, ![32, 32, 2048]⟩
abbrev S1x1x128 : Shape := ⟨3, ![1, 1, 128]⟩
abbrev S32x32x1 : Shape := ⟨3, ![32, 32, 1]⟩
abbrev S32x32x128 : Shape := ⟨3, ![32, 32, 128]⟩
abbrev S32x32x40 : Shape := ⟨3, ![32, 32, 40]⟩
abbrev S32x32x88 : Shape := ⟨3, ![32, 32, 88]⟩
abbrev S32x32x42 : Shape := ⟨3, ![32, 32, 42]⟩
abbrev S32x32x86 : Shape := ⟨3, ![32, 32, 86]⟩
abbrev S1024x128 : Shape := ⟨2, ![1024, 128]⟩
abbrev S32x128 : Shape := ⟨2, ![32, 128]⟩
abbrev S1x32x128 : Shape := ⟨3, ![1, 32, 128]⟩
abbrev S1024x1024x64 : Shape := ⟨3, ![1024, 1024, 64]⟩

abbrev nBuf : Space → Nat
  | .hbm => 45
  | .vmem => 8
  | .smem => 0
  | _ => 0

abbrev bufTy : (tb : Table) → Fin (tcTables nBuf tb) → BufTy
  | .hbm, ⟨0, _⟩ => ⟨S1024x1024, .i32⟩
  | .hbm, ⟨1, _⟩ => ⟨S1024x1024x20, .f32⟩
  | .hbm, ⟨2, _⟩ => ⟨S21x44, .f32⟩
  | .hbm, ⟨3, _⟩ => ⟨S1024x64, .f32⟩
  | .hbm, ⟨4, _⟩ => ⟨S1024x1024, .i16⟩
  | .hbm, ⟨5, _⟩ => ⟨S1024x512x2, .i16⟩
  | .hbm, ⟨6, _⟩ => ⟨S1024x512, .i32⟩
  | .hbm, ⟨7, _⟩ => ⟨S1024x32x16, .i32⟩
  | .hbm, ⟨8, _⟩ => ⟨S1024x32x640, .f32⟩
  | .hbm, ⟨9, _⟩ => ⟨S32x2048, .f32⟩
  | .hbm, ⟨10, _⟩ => ⟨S_, .f32⟩
  | .hbm, ⟨11, _⟩ => ⟨S128x128, .f32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S128x128, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S128x128, .f32⟩
  | .hbm, ⟨24, _⟩ => ⟨S20x20, .i32⟩
  | .hbm, ⟨25, _⟩ => ⟨S20x20, .i32⟩
  | .hbm, ⟨26, _⟩ => ⟨S_, .i32⟩
  | .hbm, ⟨27, _⟩ => ⟨S20x20, .i32⟩
  | .hbm, ⟨28, _⟩ => ⟨S20x20, .i32⟩
  | .hbm, ⟨29, _⟩ => ⟨S20x20, .i1⟩
  | .hbm, ⟨30, _⟩ => ⟨S20x20, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S128x128, .f32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S2, .i32⟩
  | .hbm, ⟨42, _⟩ => ⟨S128x128, .f32⟩
  | .hbm, ⟨43, _⟩ => ⟨S1024x32x2048, .f32⟩
  | .hbm, ⟨44, _⟩ => ⟨S1024x1024x64, .f32⟩
  | .local _ .vmem, ⟨0, _⟩ => ⟨S32x32x16, .i32⟩
  | .local _ .vmem, ⟨1, _⟩ => ⟨S32x32x16, .i32⟩
  | .local _ .vmem, ⟨2, _⟩ => ⟨S32x32x640, .f32⟩
  | .local _ .vmem, ⟨3, _⟩ => ⟨S32x32x640, .f32⟩
  | .local _ .vmem, ⟨4, _⟩ => ⟨S128x128, .f32⟩
  | .local _ .vmem, ⟨5, _⟩ => ⟨S32x2048, .f32⟩
  | .local _ .vmem, ⟨6, _⟩ => ⟨S32x32x2048, .f32⟩
  | .local _ .vmem, ⟨7, _⟩ => ⟨S32x32x2048, .f32⟩
  | _, _ => ⟨S1024x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_c_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x32x16 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x32x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1024x1024 : Shape := ⟨2, ![1024, 1024]⟩
abbrev S1024x1024x20 : Shape := ⟨3, ![1024, 1024, 20]⟩
abbrev S21x44 : Shape := ⟨2, ![21, 44]⟩
abbrev S1024x64 : Shape := ⟨2, ![1024, 64]⟩
abbrev S1024 : Shape := ⟨1, ![1024]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x1024x1 : Shape := ⟨3, ![1024, 1024, 1]⟩
abbrev S1x1x1 : Shape := ⟨3, ![1, 1, 1]⟩
abbrev S1024x1024x44 : Shape := ⟨3, ![1024, 1024, 44]⟩
abbrev S1024x1024x64 : Shape := ⟨3, ![1024, 1024, 64]⟩
abbrev S1x1024x64 : Shape := ⟨3, ![1, 1024, 64]⟩

abbrev nBuf : Space → Nat
  | .hbm => 55
  | .vmem => 0
  | .smem => 0
  | _ => 0

abbrev bufTy : (tb : Table) → Fin (tcTables nBuf tb) → BufTy
  | .hbm, ⟨0, _⟩ => ⟨S1024x1024, .i32⟩
  | .hbm, ⟨1, _⟩ => ⟨S1024x1024x20, .f32⟩
  | .hbm, ⟨2, _⟩ => ⟨S21x44, .f32⟩
  | .hbm, ⟨3, _⟩ => ⟨S1024x64, .f32⟩
  | .hbm, ⟨4, _⟩ => ⟨S1024, .i32⟩
  | .hbm, ⟨5, _⟩ => ⟨S_, .i32⟩
  | .hbm, ⟨6, _⟩ => ⟨S1024, .i32⟩
  | .hbm, ⟨7, _⟩ => ⟨S1024, .i1⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S1024x1, .i32⟩
  | .hbm, ⟨13, _⟩ => ⟨S1, .i32⟩
  | .hbm, ⟨14, _⟩ => ⟨S_, .i32⟩
  | .hbm, ⟨15, _⟩ => ⟨S1024x1, .i32⟩
  | .hbm, ⟨16, _⟩ => ⟨S1024x1, .i1⟩
  | .hbm, ⟨17, _⟩ => ⟨S1x1, .i32⟩
  | .hbm, ⟨18, _⟩ => ⟨S1024x1, .i32⟩
  | .hbm, ⟨19, _⟩ => ⟨S1024x1, .i1⟩
  | .hbm, ⟨20, _⟩ => ⟨S1024x1, .i1⟩
  | .hbm, ⟨21, _⟩ => ⟨S_, .i1⟩
  | .hbm, ⟨22, _⟩ => ⟨S1024, .i1⟩
  | .hbm, ⟨23, _⟩ => ⟨S1024x64, .f32⟩
  | .hbm, ⟨24, _⟩ => ⟨S1024x64, .i1⟩
  | .hbm, ⟨25, _⟩ => ⟨S_, .f32⟩
  | .hbm, ⟨26, _⟩ => ⟨S1024x64, .f32⟩
  | .hbm, ⟨27, _⟩ => ⟨S1024x64, .f32⟩
  | .hbm, ⟨28, _⟩ => ⟨S_, .i32⟩
  | .hbm, ⟨29, _⟩ => ⟨S1024x1024, .i32⟩
  | .hbm, ⟨30, _⟩ => ⟨S1024x1024, .i1⟩
  | .hbm, ⟨31, _⟩ => ⟨S_, .i32⟩
  | .hbm, ⟨32, _⟩ => ⟨S1024x1024, .i32⟩
  | .hbm, ⟨33, _⟩ => ⟨S1024x1024, .i32⟩
  | .hbm, ⟨34, _⟩ => ⟨S1024x1024, .i32⟩
  | .hbm, ⟨35, _⟩ => ⟨S1024x1024x1, .i32⟩
  | .hbm, ⟨36, _⟩ => ⟨S1, .i32⟩
  | .hbm, ⟨37, _⟩ => ⟨S_, .i32⟩
  | .hbm, ⟨38, _⟩ => ⟨S1024x1024x1, .i32⟩
  | .hbm, ⟨39, _⟩ => ⟨S1024x1024x1, .i1⟩
  | .hbm, ⟨40, _⟩ => ⟨S1x1x1, .i32⟩
  | .hbm, ⟨41, _⟩ => ⟨S1024x1024x1, .i32⟩
  | .hbm, ⟨42, _⟩ => ⟨S1024x1024x1, .i1⟩
  | .hbm, ⟨43, _⟩ => ⟨S1024x1024x1, .i1⟩
  | .hbm, ⟨44, _⟩ => ⟨S_, .i1⟩
  | .hbm, ⟨45, _⟩ => ⟨S1024x1024, .i1⟩
  | .hbm, ⟨46, _⟩ => ⟨S1024x1024x44, .f32⟩
  | .hbm, ⟨47, _⟩ => ⟨S1024x1024x44, .i1⟩
  | .hbm, ⟨48, _⟩ => ⟨S_, .f32⟩
  | .hbm, ⟨49, _⟩ => ⟨S1024x1024x44, .f32⟩
  | .hbm, ⟨50, _⟩ => ⟨S1024x1024x44, .f32⟩
  | .hbm, ⟨51, _⟩ => ⟨S1024x1024x64, .f32⟩
  | .hbm, ⟨52, _⟩ => ⟨S1x1024x64, .f32⟩
  | .hbm, ⟨53, _⟩ => ⟨S1024x1024x64, .f32⟩
  | .hbm, ⟨54, _⟩ => ⟨S1024x1024x64, .f32⟩
  | _, _ => ⟨S1024x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩

abbrev nD : Nat := 1
abbrev τ : Topo := Topo.v7x

variable {F : FTy → Type} [FloatOps F]
-- ==== Proof.Scatter.lean ====
/- A BLOCK WRITTEN INTO A MATRIX: the scatter by which `x.at[i : i + U, j : j + V].set(v)` prints, read at an entry. -/
module

public import Idealize.ShloMosaic.Lib.Routing.OpsOne
public import Idealize.ShloMosaic.Lib.Routing.OpsSet

@[expose] public section

namespace Cert.Proof.Scatter

open Idealize.ShloMosaic Idealize.ShloMosaic.Routing Idealize.ShloMosaic.ValueIdx

variable {R C U V : ℕ}

/-- Entry `(k, l)` of the block lands at `(r, c)` exactly when the two index words, read signed, are `r - k` and
    `c - l`. -/
theorem lands (d : ScatterDims (shape2 R C) (shape1 2) (shape2 U V)) (huw : d.updateWindowDims = [0, 1])
    (hiw : d.insertedWindowDims = []) (hsd : d.scatterDimsToOperandDims = [0, 1]) (hivd : d.indexVectorDim = 0)
    (idx : IVec (shape1 2) 32) (k : Fin U) (l : Fin V) (r : Fin R) (c : Fin C) :
    d.resultIdx? (ix2 k l) idx = some (ix2 r c)
      ↔ (idx (ix1 (0 : Fin 2))).toInt + (k.val : ℤ) = r.val ∧ (idx (ix1 (1 : Fin 2))).toInt + (l.val : ℤ) = c.val := by
  have kept : d.sKept = [0, 1] := by
    show (shape2 R C).kept d.insertedWindowDims = _
    rw [hiw]; rfl
  have pick : ∀ (K W : List (Fin 2)) (q : Fin 2) (h : K.idxOf q < W.length), K = [0, 1] → W = [0, 1] →
      W[K.idxOf q]'h = q := by
    intro K W q h hK hW
    subst hK hW
    fin_cases q <;> rfl
  have win : ∀ q : Fin 2, d.window (ix2 k l) q = ((ix2 k l : (shape2 U V).Idx) q).val := fun q => by
    unfold ScatterDims.window
    rw [dif_pos (by rw [kept]; fin_cases q <;> simp)]
    exact congrArg (fun t => ((ix2 k l : (shape2 U V).Idx) t).val) (pick _ _ q _ kept huw)
  rw [resultIdx?_ix2, start_pair d hsd hivd, start_pair d hsd hivd, win, win]
  rfl

/-- THE MATRIX AFTER THE WRITE, the block's corner at `(p, q)`: inside the block the block's entry, outside the entry
    the matrix held. -/
theorem set_block {α : Type} (d : ScatterDims (shape2 R C) (shape1 2) (shape2 U V)) (huw : d.updateWindowDims = [0, 1])
    (hiw : d.insertedWindowDims = []) (hsd : d.scatterDimsToOperandDims = [0, 1]) (hivd : d.indexVectorDim = 0)
    (x : (shape2 R C).Idx → α) (idx : IVec (shape1 2) 32) (upd : (shape2 U V).Idx → α) (p q : ℕ)
    (hp : (idx (ix1 (0 : Fin 2))).toInt = p) (hq : (idx (ix1 (1 : Fin 2))).toInt = q) (r : Fin R) (c : Fin C) :
    Host.scatter d (fun _ b => b) x idx upd (ix2 r c)
      = if h : (p ≤ r.val ∧ r.val - p < U) ∧ (q ≤ c.val ∧ c.val - q < V)
        then upd (ix2 ⟨r.val - p, h.1.2⟩ ⟨c.val - q, h.2.2⟩) else x (ix2 r c) := by
  have from_lands : ∀ j : (shape2 U V).Idx, d.resultIdx? j idx = some (ix2 r c) →
      p + (j 0).val = r.val ∧ q + (j 1).val = c.val := fun j hj => by
    have := (lands d huw hiw hsd hivd idx (j 0) (j 1) r c).1
      ((congrArg (fun t => d.resultIdx? t idx) (eq_ix2 j).symm).trans hj)
    rw [hp, hq] at this
    omega
  by_cases h : (p ≤ r.val ∧ r.val - p < U) ∧ (q ≤ c.val ∧ c.val - q < V)
  · rw [dif_pos h]
    refine scatter_set_hit d x idx upd _ _ (fun j hj => ?_) (ix2 ⟨r.val - p, h.1.2⟩ ⟨c.val - q, h.2.2⟩)
      ((lands d huw hiw hsd hivd idx _ _ r c).2 ?_)
    · obtain ⟨e0, e1⟩ := from_lands j hj
      rw [eq_ix2 j]
      exact congrArg₂ (fun a b => upd (ix2 a b)) (Fin.ext (show (j 0).val = r.val - p by omega))
        (Fin.ext (show (j 1).val = c.val - q by omega))
    · rw [hp, hq]
      show (p : ℤ) + ((r.val - p : ℕ) : ℤ) = r.val ∧ (q : ℤ) + ((c.val - q : ℕ) : ℤ) = c.val
      omega
  · rw [dif_neg h]
    refine scatter_set_miss d x idx upd _ fun j hj => h ?_
    obtain ⟨e0, e1⟩ := from_lands j hj
    have h0 : (j 0).val < U := (j 0).isLt
    have h1 : (j 1).val < V := (j 1).isLt
    omega

end Cert.Proof.Scatter
-- ==== Proof.Matrix.lean ====
/- THE KERNEL'S MATRIX. Before its launch the program writes four blocks into a 128 × 128 matrix of zeros: the token
   table twice, its corner at (0, 0) and at (21, 64), and the identity of size twenty twice, at (42, 44) and at
   (62, 108). Here the matrix is read at an entry, and then column by column: each column holds one kind of entry. -/
module

public import proofs.«01_k».proof.Proof.Scatter
public import proofs.«01_k».proof.Proof.Gen.KernelIdeal
public import Idealize.ShloMosaic.Lib.Pointwise

@[expose] public section

set_option maxRecDepth 16384

noncomputable section

namespace Cert.Proof.Matrix

open Idealize.ShloMosaic Cert.KernelIdeal Cert.KernelIdeal.Gen

/-- The two words that name a block's corner. -/
def corner (p q : BitVec 32) : IVec S2 32 :=
  concatenate S2 0 [⟨S1, broadcastInDim S1 ![] bcast_S_S1 (constantI S_ 32 p)⟩,
    ⟨S1, broadcastInDim S1 ![] bcast_S_S1 (constantI S_ 32 q)⟩] concatenates_S1_S1_S2_d0

/-- The first word is the row of the corner. -/
theorem corner_row (p q : BitVec 32) : corner p q (ix1 0) = p := by pointwise [corner]
/-- The second is its column. -/
theorem corner_col (p q : BitVec 32) : corner p q (ix1 1) = q := by pointwise [corner]

/-- The identity matrix of size twenty, as the program makes it from two counts. -/
def eye : FVec Ideal S20x20 .f32 :=
  uitofp .f32 (cmpi .eq (addi (iotaInDim S20x20 32 0) (broadcastInDim S20x20 ![] bcast_S_S20x20 (constantI S_ 32 0#32)))
    (iotaInDim S20x20 32 1))

/-- The two counts compared: the same number gives the bit 1, different numbers the bit 0. -/
theorem eye_word : ∀ a b : Fin 20,
    (IntOp.cmpi .eq (IntOp.addi (BitVec.ofNat 32 a.val) 0#32) (BitVec.ofNat 32 b.val)) = BitVec.ofBool (decide (a = b)) := by
  decide +kernel

/-- It is one on the diagonal and zero off it. -/
theorem eye_apply (a b : Fin 20) : (eye (ix2 a b) : EReal) = if a = b then 1 else 0 := by
  pointwise [eye]
  rw [eye_word]
  by_cases h : a = b
  · simp [h, FloatOps.uitofp]
  · simp [h, FloatOps.uitofp]

/-- The program's matrix, from the token table. -/
def matrix (tbl : FVec Ideal S21x44 .f32) : FVec Ideal S128x128 .f32 :=
  Host.scatter scatter_S128x128_S2_S20x20_01_n_01_0 (fun _ b => b)
    (Host.scatter scatter_S128x128_S2_S20x20_01_n_01_0 (fun _ b => b)
      (Host.scatter scatter_S128x128_S2_S21x44_01_n_01_0 (fun _ b => b)
        (Host.scatter scatter_S128x128_S2_S21x44_01_n_01_0 (fun _ b => b)
          (broadcastInDim S128x128 ![] bcast_S_S128x128 (constant S_ .f32 0x00000000#32)) (corner 0#32 0#32) tbl)
        (corner 21#32 64#32) tbl)
      (corner 42#32 44#32) eye)
    (corner 62#32 108#32) eye

/-- A block of the token table's size written at `(p, q)`. -/
theorem set_table (x : FVec Ideal S128x128 .f32) (tbl : FVec Ideal S21x44 .f32) (p q : ℕ) (hp : p < 128) (hq : q < 128)
    (r c : Fin 128) :
    Host.scatter scatter_S128x128_S2_S21x44_01_n_01_0 (fun _ b => b) x (corner (BitVec.ofNat 32 p) (BitVec.ofNat 32 q)) tbl (ix2 r c)
      = if h : (p ≤ r.val ∧ r.val - p < 21) ∧ (q ≤ c.val ∧ c.val - q < 44)
        then tbl (ix2 ⟨r.val - p, h.1.2⟩ ⟨c.val - q, h.2.2⟩) else x (ix2 r c) :=
  Scatter.set_block scatter_S128x128_S2_S21x44_01_n_01_0 rfl rfl rfl rfl x _ tbl p q
    ((congrArg BitVec.toInt (corner_row _ _)).trans (StableHlo.Predicate.toInt_ofNat_small _ (by omega)))
    ((congrArg BitVec.toInt (corner_col _ _)).trans (StableHlo.Predicate.toInt_ofNat_small _ (by omega))) r c

/-- A block of the identity's size written at `(p, q)`. -/
theorem set_eye (x : FVec Ideal S128x128 .f32) (e : FVec Ideal S20x20 .f32) (p q : ℕ) (hp : p < 128) (hq : q < 128)
    (r c : Fin 128) :
    Host.scatter scatter_S128x128_S2_S20x20_01_n_01_0 (fun _ b => b) x (corner (BitVec.ofNat 32 p) (BitVec.ofNat 32 q)) e (ix2 r c)
      = if h : (p ≤ r.val ∧ r.val - p < 20) ∧ (q ≤ c.val ∧ c.val - q < 20)
        then e (ix2 ⟨r.val - p, h.1.2⟩ ⟨c.val - q, h.2.2⟩) else x (ix2 r c) :=
  Scatter.set_block scatter_S128x128_S2_S20x20_01_n_01_0 rfl rfl rfl rfl x _ e p q
    ((congrArg BitVec.toInt (corner_row _ _)).trans (StableHlo.Predicate.toInt_ofNat_small _ (by omega)))
    ((congrArg BitVec.toInt (corner_col _ _)).trans (StableHlo.Predicate.toInt_ofNat_small _ (by omega))) r c

/-- THE MATRIX AT AN ENTRY: the last block written there, or zero. -/
theorem matrix_apply (tbl : FVec Ideal S21x44 .f32) (r c : Fin 128) :
    (matrix tbl (ix2 r c) : EReal)
      = if h : (62 ≤ r.val ∧ r.val - 62 < 20) ∧ (108 ≤ c.val ∧ c.val - 108 < 20) then (if r.val - 62 = c.val - 108 then 1 else 0)
        else if h : (42 ≤ r.val ∧ r.val - 42 < 20) ∧ (44 ≤ c.val ∧ c.val - 44 < 20) then (if r.val - 42 = c.val - 44 then 1 else 0)
        else if h : (21 ≤ r.val ∧ r.val - 21 < 21) ∧ (64 ≤ c.val ∧ c.val - 64 < 44) then tbl (ix2 ⟨r.val - 21, h.1.2⟩ ⟨c.val - 64, h.2.2⟩)
        else if h : (0 ≤ r.val ∧ r.val - 0 < 21) ∧ (0 ≤ c.val ∧ c.val - 0 < 44) then tbl (ix2 ⟨r.val - 0, h.1.2⟩ ⟨c.val - 0, h.2.2⟩)
        else 0 := by
  unfold matrix
  refine (set_eye _ _ 62 108 (by decide) (by decide) r c).trans ?_
  simp only [eye_apply, Fin.mk.injEq]
  refine dite_congr rfl (fun _ => rfl) fun _ => ?_
  refine (set_eye _ _ 42 44 (by decide) (by decide) r c).trans ?_
  simp only [eye_apply, Fin.mk.injEq]
  refine dite_congr rfl (fun _ => rfl) fun _ => ?_
  refine (set_table _ _ 21 64 (by decide) (by decide) r c).trans ?_
  refine dite_congr rfl (fun _ => rfl) fun _ => ?_
  refine (set_table _ _ 0 0 (by decide) (by decide) r c).trans ?_
  refine dite_congr rfl (fun _ => rfl) fun _ => ?_
  pointwise []

/-- Columns 0 to 43 hold the token table in rows 0 to 20. -/
theorem column_low (tbl : FVec Ideal S21x44 .f32) (x : Fin 128) (f : Fin 44) (h : f.val < 128) :
    (matrix tbl (ix2 x ⟨f.val, h⟩) : EReal) = if h : x.val < 21 then tbl (ix2 ⟨x.val, h⟩ f) else 0 := by
  rw [matrix_apply]
  have := f.isLt
  by_cases hx : x.val < 21
  · rw [dif_neg (by dsimp only; omega), dif_neg (by dsimp only; omega), dif_neg (by dsimp only; omega), dif_pos (by dsimp only; omega), dif_pos hx]
    rfl
  · rw [dif_neg (by dsimp only; omega), dif_neg (by dsimp only; omega), dif_neg (by dsimp only; omega), dif_neg (by dsimp only; omega), dif_neg hx]

/-- Columns 64 to 107 hold it in rows 21 to 41. -/
theorem column_high (tbl : FVec Ideal S21x44 .f32) (x : Fin 128) (f : Fin 44) (h : 64 + f.val < 128) :
    (matrix tbl (ix2 x ⟨64 + f.val, h⟩) : EReal)
      = if h : 21 ≤ x.val ∧ x.val - 21 < 21 then tbl (ix2 ⟨x.val - 21, h.2⟩ f) else 0 := by
  rw [matrix_apply]
  have := f.isLt
  by_cases hx : 21 ≤ x.val ∧ x.val - 21 < 21
  · rw [dif_neg (by dsimp only; omega), dif_neg (by dsimp only; omega), dif_pos (by dsimp only; omega), dif_pos hx]
    exact congrArg (fun t => tbl (ix2 _ t)) (Fin.ext (show 64 + f.val - 64 = f.val by omega))
  · rw [dif_neg (by dsimp only; omega), dif_neg (by dsimp only; omega), dif_neg (by dsimp only; omega), dif_neg (by dsimp only; omega), dif_neg hx]

/-- Column `44 + g` has its one in row `42 + g`. -/
theorem column_prof_low (tbl : FVec Ideal S21x44 .f32) (x : Fin 128) (g : Fin 20) (h : 44 + g.val < 128) :
    (matrix tbl (ix2 x ⟨44 + g.val, h⟩) : EReal) = if x.val = 42 + g.val then 1 else 0 := by
  rw [matrix_apply]
  have := g.isLt
  rw [dif_neg (by dsimp only; omega)]
  by_cases hx : 42 ≤ x.val ∧ x.val - 42 < 20
  · rw [dif_pos (by dsimp only; omega)]
    exact if_congr (by dsimp only; omega) rfl rfl
  · rw [dif_neg (by dsimp only; omega), dif_neg (by dsimp only; omega), dif_neg (by dsimp only; omega), if_neg (by omega)]

/-- Column `108 + g` has its one in row `62 + g`. -/
theorem column_prof_high (tbl : FVec Ideal S21x44 .f32) (x : Fin 128) (g : Fin 20) (h : 108 + g.val < 128) :
    (matrix tbl (ix2 x ⟨108 + g.val, h⟩) : EReal) = if x.val = 62 + g.val then 1 else 0 := by
  rw [matrix_apply]
  have := g.isLt
  by_cases hx : 62 ≤ x.val ∧ x.val - 62 < 20
  · rw [dif_pos (by dsimp only; omega)]
    exact if_congr (by dsimp only; omega) rfl rfl
  · rw [dif_neg (by dsimp only; omega), dif_neg (by dsimp only; omega), dif_neg (by dsimp only; omega), dif_neg (by dsimp only; omega), if_neg (by omega)]

end Cert.Proof.Matrix

end
-- ==== Proof.Entry.lean ====
/- WHAT THE LAUNCH IS GIVEN. The host operations before the launch turn the four arguments into the four arrays that
   the launch reads. Here each of those arrays is read at an index, as a term of the arguments. -/
module

public import proofs.«01_k».proof.Proof.Matrix
public import proofs.«01_k».proof.Proof.Gen.KernelIdeal.Frame
public import Idealize.ShloMosaic.Lib.Pointwise
public import Idealize.ShloMosaic.Lib.BitcastConvert
public import Idealize.ShloMosaic.Lib.StableHlo.ReadAt

@[expose] public section

set_option maxRecDepth 16384

noncomputable section

namespace Cert.Proof.Entry

open Idealize.ShloMosaic Idealize.ShloMosaic.TcCoe Cert.KernelIdeal Cert.KernelIdeal.Gen

variable (m : (ℓ : Loc nD τ sig) → Buf (Elt Ideal) ℓ) (c : Dev nD)

/-- The tokens, two to a word: the low half of word `(b, r, k)` is the token at position `2 (16 r + k)`, the high half
    the token after it. -/
theorem tok_entry (b : Fin 1024) (r : Fin 32) (k : Fin 16) :
    (V m c main_v3 (ix3 b r k) : BitVec 32)
      = BitVec.setWidth 16 (m ((c.tc : Thread nD τ).loc main_arg0) (ix2 b ⟨(r.val * 16 + k.val) * 2 + 1, by omega⟩) : BitVec 32)
        ++ BitVec.setWidth 16 (m ((c.tc : Thread nD τ).loc main_arg0) (ix2 b ⟨(r.val * 16 + k.val) * 2 + 0, by omega⟩) : BitVec 32) := by
  unfold_abbrev_sides
  after_reads_at
  rfl

/-- The profile rows, 32 positions to a row. -/
theorem prof_entry (b : Fin 1024) (r : Fin 32) (k : Fin 640) :
    (V m c main_v4 (ix3 b r k) : EReal)
      = m ((c.tc : Thread nD τ).loc main_arg1) (ix3 b ⟨r.val * 32 + k.val / 20, by omega⟩ ⟨k.val % 20, by omega⟩) := by
  unfold_abbrev_sides
  after_reads_at

/-- The position table, 32 positions to a row. -/
theorem pos_entry (r : Fin 32) (k : Fin 2048) :
    (V m c main_v5 (ix2 r k) : EReal)
      = m ((c.tc : Thread nD τ).loc main_arg3) (ix2 ⟨r.val * 32 + k.val / 64, by omega⟩ ⟨k.val % 64, by omega⟩) := by
  unfold_abbrev_sides
  after_reads_at

/-- The matrix. -/
theorem mat_entry : V m c main_v28 = Matrix.matrix (m ((c.tc : Thread nD τ).loc main_arg2)) := by
  simp only [V, V0, hostOps0, List.flatten_cons, List.flatten_nil, List.cons_append, List.nil_append]
  after_results
  rfl

end Cert.Proof.Entry

end
-- ==== Proof.Spec.lean ====
/- THE VALUE. What both programs compute, on arrays of extended reals, with no program named: position `l` of
   sequence `b` is the row of the token table that its token names, followed by the position's profile, plus the
   position's row of the position table. -/
module

public import Idealize.ShloMosaic.Lib.Pointwise

@[expose] public section

noncomputable section

namespace Cert.Proof.Spec

open Idealize.ShloMosaic

/-- The embedding at `(b, l, f)`, the token there being `t b l`. -/
def embed (t : Fin 1024 → Fin 1024 → Fin 21) (prof : Fin 1024 → Fin 1024 → Fin 20 → EReal) (tbl : Fin 21 → Fin 44 → EReal)
    (pos : Fin 1024 → Fin 64 → EReal) (b l : Fin 1024) (f : Fin 64) : EReal :=
  (if h : f.val < 44 then tbl (t b l) ⟨f.val, h⟩ else prof b l ⟨f.val - 44, by omega⟩) + pos l f

/-- Its first 44 features read the token table. -/
theorem embed_token (t : Fin 1024 → Fin 1024 → Fin 21) (prof : Fin 1024 → Fin 1024 → Fin 20 → EReal)
    (tbl : Fin 21 → Fin 44 → EReal) (pos : Fin 1024 → Fin 64 → EReal) (b l : Fin 1024) (f : Fin 44) (h : f.val < 64) :
    embed t prof tbl pos b l ⟨f.val, h⟩ = tbl (t b l) f + pos l ⟨f.val, h⟩ := by
  unfold embed
  rw [dif_pos f.isLt]

/-- Its last 20 features are the profile. -/
theorem embed_prof (t : Fin 1024 → Fin 1024 → Fin 21) (prof : Fin 1024 → Fin 1024 → Fin 20 → EReal)
    (tbl : Fin 21 → Fin 44 → EReal) (pos : Fin 1024 → Fin 64 → EReal) (b l : Fin 1024) (g : Fin 20) (h : 44 + g.val < 64) :
    embed t prof tbl pos b l ⟨44 + g.val, h⟩ = prof b l g + pos l ⟨44 + g.val, h⟩ := by
  unfold embed
  rw [dif_neg (by dsimp only; omega)]
  exact congrArg (fun x => prof b l x + _) (Fin.ext (show 44 + g.val - 44 = g.val by omega))

end Cert.Proof.Spec

end
-- ==== Proof.Step.lean ====
/- ONE STEP OF THE KERNEL'S BODY. The body writes its block of the result in sixteen column groups of 128 lanes, each
   by the same chain of vector operations at three offsets: column `k` of the packed tokens, columns `40 k` on of the
   profile rows, columns `128 k` on of the position rows. Here the chain is written once, at any offset, and read at an
   index as a sum over the 128 lanes. -/
module

public import proofs.«01_k».proof.Proof.Gen.KernelIdeal.Skeleton
public import Idealize.ShloMosaic.Lib.Pointwise

@[expose] public section

set_option maxRecDepth 16384

noncomputable section

namespace Cert.Proof.Step

open Idealize.ShloMosaic Cert.KernelIdeal Cert.KernelIdeal.Gen

variable {F : FTy → Type} [FloatOps F]

/-- The body's chain for one column group: tokens at column `a`, profile at columns `b` on, positions at columns `e`
    on. `lane` is the lane number, `target` the token each lane stands for. -/
def step (a b e : ℕ) (ha : S32x32x16.Slices ![0, 0, a] S32x32x1) (hb : S32x32x640.Slices ![0, 0, b] S32x32x40)
    (he : S32x2048.Slices ![0, e] S32x128) (lane target : IVec S1x1x128 32) (mat : FVec F S128x128 .f32)
    (tok : IVec S32x32x16 32) (prof : FVec F S32x32x640 .f32) (pos : FVec F S32x2048 .f32) : FVec F S32x32x128 .f32 :=
  let word : IVec S32x32x128 32 := broadcastTo S32x32x128
    (shapeCast S32x32x1 (extractStridedSlice S32x32x1 ![0, 0, a] tok ha) shapeCasts_S32x32x1_S32x32x1)
    broadcasts_S32x32x1_S32x32x128
  let half : IVec S32x32x128 32 := select
    (broadcastTo S32x32x128 (shapeCast S1x1x128 (cmpi .slt lane (broadcast S1x1x128 21#32)) shapeCasts_S1x1x128_S1x1x128)
      broadcasts_S1x1x128_S32x32x128)
    (andi word (broadcast S32x32x128 65535#32)) (shrsi word (broadcast S32x32x128 16#32))
  let hot : FVec F S32x32x128 .f32 := sitofp .f32
    (extui 32 (cmpi .eq half (broadcastTo S32x32x128 target broadcasts_S1x1x128_S32x32x128)) natLt_1_32)
  let wide : FVec F S32x32x128 .f32 := concatenate S32x32x128 2
    [⟨S32x32x40, extractStridedSlice S32x32x40 ![0, 0, b] prof hb⟩,
     ⟨S32x32x88, broadcast S32x32x88 (Scalar.sitofp .f32 0#32)⟩] concatenates_S32x32x40_S32x32x88_S32x32x128_d2
  let turned : FVec F S32x32x128 .f32 := concatenate S32x32x128 2
    [⟨S32x32x42, extractStridedSlice S32x32x42 ![0, 0, 86] wide slices_S32x32x128_o0_0_86_S32x32x42⟩,
     ⟨S32x32x86, extractStridedSlice S32x32x86 ![0, 0, 0] wide slices_S32x32x128_o0_0_0_S32x32x86⟩]
    concatenates_S32x32x42_S32x32x86_S32x32x128_d2
  let row : FVec F S32x32x128 .f32 := select
    (broadcastTo S32x32x128 (shapeCast S1x1x128 (cmpi .slt lane (broadcast S1x1x128 42#32)) shapeCasts_S1x1x128_S1x1x128)
      broadcasts_S1x1x128_S32x32x128) hot turned
  addf
    (shapeCast S32x32x128
      (matmul dot_S1024x128_S128x128_S1024x128_1_0_0_1_n_n none (shapeCast S1024x128 row shapeCasts_S32x32x128_S1024x128)
        mat (constant S1024x128 .f32 0x00000000#32)) shapeCasts_S1024x128_S32x32x128)
    (broadcastTo S32x32x128 (shapeCast S1x32x128 (extractStridedSlice S32x128 ![0, e] pos he) shapeCasts_S32x128_S1x32x128)
      broadcasts_S1x32x128_S32x32x128)

/-- What lane `x` of the row that meets the matrix holds, for the packed pair of tokens `w` and the pair's forty
    profile entries `p`: lanes 0 to 20 mark the low token, lanes 21 to 41 the high one, lanes 42 to 81 carry the
    profile, and the rest are zero. -/
def rowEntry (w : BitVec 32) (p : Fin 40 → EReal) (x : Fin 128) : EReal :=
  if x.val < 21 then (if IntOp.andi w 65535#32 = BitVec.ofNat 32 x.val then 1 else 0)
  else if x.val < 42 then (if IntOp.shrsi .vector w 16#32 = BitVec.ofNat 32 (x.val - 21) then 1 else 0)
  else if h : x.val - 42 < 40 then p ⟨x.val - 42, h⟩ else 0

/-- A lane number, as a word, is below 21 exactly when it is. -/
theorem lane_below_21 : ∀ x : Fin 128, IntOp.cmpi .slt (BitVec.ofNat 32 x.val) 21#32 = BitVec.ofBool (decide (x.val < 21)) := by
  decide +kernel

/-- A lane number, as a word, is below 42 exactly when it is. -/
theorem lane_below_42 : ∀ x : Fin 128, IntOp.cmpi .slt (BitVec.ofNat 32 x.val) 42#32 = BitVec.ofBool (decide (x.val < 42)) := by
  decide +kernel

/-- Taking 21 off a lane number that is at least 21, as words. -/
theorem lane_less_21 : ∀ x : Fin 128, ¬ x.val < 21 → IntOp.subi (BitVec.ofNat 32 x.val) 21#32 = BitVec.ofNat 32 (x.val - 21) := by
  decide +kernel

/-- A word comparison turned into a number is 1 where the words are equal and 0 where they are not. -/
theorem mark_eq (a b : BitVec 32) :
    (FloatOps.sitofp (F := Ideal) .f32 (BitVec.setWidth 32 (IntOp.cmpi .eq a b)) : EReal) = if a = b then 1 else 0 := by
  by_cases h : a = b
  · subst h; simp [IntOp.cmpi, FloatOps.sitofp]
  · simp [IntOp.cmpi, FloatOps.sitofp, h, beq_eq_false_iff_ne.mpr h]

/-- ONE STEP AT AN INDEX: the row of the pair at `(i, r)` against column `q` of the matrix, plus the position entry. -/
theorem step_apply (a b e : ℕ) (ha hb he) (mat : FVec Ideal S128x128 .f32)
    (tok : IVec S32x32x16 32) (prof : FVec Ideal S32x32x640 .f32) (pos : FVec Ideal S32x2048 .f32)
    (hka : a < 16) (hkb : b + 40 ≤ 640) (hke : e + 128 ≤ 2048) (i r : Fin 32) (q : Fin 128) :
    step a b e ha hb he (iota .tc S1x1x128 32 [2] iota_S1x1x128_d2_w32) k0_pay1 mat tok prof pos (ix3 i r q)
      = (∑ x : Fin 128, rowEntry (tok (ix3 i r ⟨a, hka⟩)) (fun g => prof (ix3 i r ⟨b + g.val, by omega⟩)) x * mat (ix2 x q))
        + pos (ix2 r ⟨e + q.val, by omega⟩) := by
  pointwise [step, k0_pay1]
  refine congrArg (· + _) (Finset.sum_congr rfl fun x _ => congrArg (· * _) ?_)
  rw [mark_eq, lane_below_21, lane_below_42]
  unfold rowEntry
  by_cases h1 : x.val < 21
  · have h2 : x.val < 42 := by omega
    simp [h1, h2, Scalar.select]
  · by_cases h2 : x.val < 42
    · simp [h1, h2, Scalar.select, lane_less_21 x h1]
    · simp [h1, h2, Scalar.select]

end Cert.Proof.Step

end
-- ==== Proof.Pair.lean ====
/- ONE ENTRY OF THE KERNEL'S BLOCK. The row of a pair of tokens holds a one at each token's place and the pair's two
   profiles; against a column of the matrix, which holds one kind of entry, a single product is left. -/
module

public import proofs.«01_k».proof.Proof.Matrix
public import proofs.«01_k».proof.Proof.Step

@[expose] public section

set_option maxRecDepth 16384

noncomputable section

namespace Cert.Proof.Pair

open Idealize.ShloMosaic Cert.KernelIdeal Cert.KernelIdeal.Gen Cert.Proof.Step Cert.Proof.Matrix

/-- Two tokens in a word: the second above the first. -/
def pack (t0 t1 : Fin 21) : BitVec 32 :=
  BitVec.setWidth 16 (BitVec.ofNat 32 t1.val) ++ BitVec.setWidth 16 (BitVec.ofNat 32 t0.val)

/-- The low half of the word is the first token, its high half the second. -/
theorem unpack : ∀ t0 t1 : Fin 21, IntOp.andi (pack t0 t1) 65535#32 = BitVec.ofNat 32 t0.val
    ∧ IntOp.shrsi .vector (pack t0 t1) 16#32 = BitVec.ofNat 32 t1.val := by
  decide +kernel

/-- Small words are equal when their numbers are. -/
theorem word_eq_iff (a b : ℕ) (ha : a < 128) (hb : b < 128) : BitVec.ofNat 32 a = BitVec.ofNat 32 b ↔ b = a := by
  constructor
  · intro h
    have := congrArg BitVec.toNat h
    simp only [BitVec.toNat_ofNat] at this
    omega
  · rintro rfl; rfl

/-- The pair's row, its marks compared as numbers. -/
theorem row_eq (t0 t1 : Fin 21) (p : Fin 40 → EReal) (x : Fin 128) :
    rowEntry (pack t0 t1) p x
      = if x.val < 21 then (if x.val = t0.val then 1 else 0) else if x.val < 42 then (if x.val - 21 = t1.val then 1 else 0)
        else if h : x.val - 42 < 40 then p ⟨x.val - 42, h⟩ else 0 := by
  unfold rowEntry
  rw [(unpack t0 t1).1, (unpack t0 t1).2]
  simp only [word_eq_iff t0.val x.val (by omega) (by omega), word_eq_iff t1.val (x.val - 21) (by omega) (by omega)]

variable (tbl : FVec Ideal S21x44 .f32) (t0 t1 : Fin 21) (p : Fin 40 → EReal)

/-- The pair's row against column `q` of the matrix. -/
def dotColumn (q : Fin 128) : EReal := ∑ x : Fin 128, rowEntry (pack t0 t1) p x * (matrix tbl (ix2 x q) : EReal)

/-- Columns 0 to 43: the first token's row of the table. -/
theorem dot_low (f : Fin 44) (h : f.val < 128) : dotColumn tbl t0 t1 p ⟨f.val, h⟩ = tbl (ix2 t0 f) := by
  unfold dotColumn
  rw [Finset.sum_eq_single (⟨t0.val, by omega⟩ : Fin 128) (fun x _ hx => ?_) (fun hx => absurd (Finset.mem_univ _) hx)]
  · have := t0.isLt
    rw [row_eq, column_low, if_pos t0.isLt, if_pos rfl, dif_pos t0.isLt, one_mul]
  · have hx' : x.val ≠ t0.val := fun e => hx (Fin.ext e)
    rw [row_eq, column_low]
    by_cases h1 : x.val < 21
    · rw [if_pos h1, if_neg hx', zero_mul]
    · rw [dif_neg h1, mul_zero]

/-- Columns 64 to 107: the second token's. -/
theorem dot_high (f : Fin 44) (h : 64 + f.val < 128) : dotColumn tbl t0 t1 p ⟨64 + f.val, h⟩ = tbl (ix2 t1 f) := by
  unfold dotColumn
  have ht := t1.isLt
  rw [Finset.sum_eq_single (⟨21 + t1.val, by omega⟩ : Fin 128) (fun x _ hx => ?_) (fun hx => absurd (Finset.mem_univ _) hx)]
  · rw [row_eq, column_high, if_neg (by dsimp only; omega), if_pos (by dsimp only; omega), if_pos (by dsimp only; omega),
      dif_pos (by dsimp only; omega), one_mul]
    exact congrArg (fun s => tbl (ix2 s f)) (Fin.ext (show 21 + t1.val - 21 = t1.val by omega))
  · have hx' : x.val ≠ 21 + t1.val := fun e => hx (Fin.ext e)
    rw [row_eq, column_high]
    by_cases h1 : 21 ≤ x.val ∧ x.val - 21 < 21
    · rw [if_neg (by omega), if_pos (by omega), if_neg (by omega), zero_mul]
    · rw [dif_neg h1, mul_zero]

/-- Columns 44 to 63: the first position's profile. -/
theorem dot_prof_low (g : Fin 20) (h : 44 + g.val < 128) : dotColumn tbl t0 t1 p ⟨44 + g.val, h⟩ = p ⟨g.val, by omega⟩ := by
  unfold dotColumn
  have hg := g.isLt
  rw [Finset.sum_eq_single (⟨42 + g.val, by omega⟩ : Fin 128) (fun x _ hx => ?_) (fun hx => absurd (Finset.mem_univ _) hx)]
  · rw [row_eq, column_prof_low, if_neg (by dsimp only; omega), if_neg (by dsimp only; omega), dif_pos (by dsimp only; omega),
      if_pos rfl, mul_one]
    exact congrArg p (Fin.ext (show 42 + g.val - 42 = g.val by omega))
  · rw [column_prof_low, if_neg fun e => hx (Fin.ext e), mul_zero]

/-- Columns 108 to 127: the second position's. -/
theorem dot_prof_high (g : Fin 20) (h : 108 + g.val < 128) :
    dotColumn tbl t0 t1 p ⟨108 + g.val, h⟩ = p ⟨20 + g.val, by omega⟩ := by
  unfold dotColumn
  have hg := g.isLt
  rw [Finset.sum_eq_single (⟨62 + g.val, by omega⟩ : Fin 128) (fun x _ hx => ?_) (fun hx => absurd (Finset.mem_univ _) hx)]
  · rw [row_eq, column_prof_high, if_neg (by dsimp only; omega), if_neg (by dsimp only; omega), dif_pos (by dsimp only; omega),
      if_pos rfl, mul_one]
    exact congrArg p (Fin.ext (show 62 + g.val - 42 = 20 + g.val by omega))
  · rw [column_prof_high, if_neg fun e => hx (Fin.ext e), mul_zero]

end Cert.Proof.Pair

end
-- ==== Proof.Block.lean ====
/- WHAT ONE GRID POINT LEAVES: the block of the result that the body stores, at an index, from the four blocks it reads. -/
module

public import proofs.«01_k».proof.Proof.Step
public import proofs.«01_k».proof.Proof.Gen.KernelIdeal.Frame
public import Idealize.ShloMosaic.Lib.Pipeline.ValueKit

@[expose] public section

set_option maxRecDepth 16384

noncomputable section

namespace Cert.Proof.Block

open Idealize.ShloMosaic Cert.KernelIdeal Cert.KernelIdeal.Gen Cert.Proof.Step

/-- The stored block at `(i, r, j)`: the row of pair `j / 128` of group `(i, r)` against column `j % 128` of the matrix,
    plus the position entry `(r, j)`. -/
def blockAt (x0 : Vec Ideal S32x32x16 .i32) (x1 : Vec Ideal S32x32x640 .f32) (x2 : Vec Ideal S128x128 .f32)
    (x3 : Vec Ideal S32x2048 .f32) (i r : Fin 32) (j : Fin 2048) : EReal :=
  (∑ x : Fin 128, rowEntry (x0 (ix3 i r ⟨j.val / 128, by omega⟩))
      (fun g => x1 (ix3 i r ⟨40 * (j.val / 128) + g.val, by omega⟩)) x * x2 (ix2 x ⟨j.val % 128, by omega⟩))
    + x3 (ix2 r j)

/-- The step at column group `k` is the part of the block that its store covers. -/
theorem step_eq_blockAt (k : ℕ) (hk : k < 16) (ha hb he)
    (inb : ∀ a, (![0, 0, 128 * k] : Fin 3 → ℕ) a + S32x32x128.size a ≤ S32x32x2048.size a)
    (x0 : Vec Ideal S32x32x16 .i32) (x1 : Vec Ideal S32x32x640 .f32) (x2 : Vec Ideal S128x128 .f32)
    (x3 : Vec Ideal S32x2048 .f32) (x : S32x32x128.Idx) :
    step (F := Ideal) k (40 * k) (128 * k) ha hb he (k0_pay43 x0 x1 x2 x3) (k0_pay44 x0 x1 x2 x3) (k0_pay45 x0 x1 x2 x3)
        (k0_pay46 x0 x1 x2 x3) (k0_pay47 x0 x1 x2 x3) (k0_pay48 x0 x1 x2 x3) x
      = (fun y : S32x32x2048.Idx => blockAt x0 x1 x2 x3 (y 0) (y 1) (y 2))
          ((Rect.unit (s := S32x32x2048) ![0, 0, 128 * k] S32x32x128.size inb).emb x) := by
  obtain ⟨i, r, q, rfl⟩ : ∃ (i r : Fin 32) (q : Fin 128), x = ix3 i r q := ⟨x 0, x 1, x 2, eq_ix3 x⟩
  unfold k0_pay43 k0_pay44
  rw [step_apply _ _ _ _ _ _ _ _ _ _ hk (by omega) (by omega)]
  have e : (Rect.unit (s := S32x32x2048) ![0, 0, 128 * k] S32x32x128.size inb).emb (ix3 i r q)
      = ix3 i r ⟨128 * k + q.val, by omega⟩ := by
    funext a; apply Fin.ext
    match a with
    | 0 => show 0 + 1 * i.val = i.val; omega
    | 1 => show 0 + 1 * r.val = r.val; omega
    | 2 => show 128 * k + 1 * q.val = 128 * k + q.val; omega
  rw [e]
  have d1 : (128 * k + q.val) / 128 = k := by omega
  have d2 : (128 * k + q.val) % 128 = q.val := by omega
  pointwise [k0_pay45, k0_pay46, k0_pay47, k0_pay48, k0_pay2, k0_pay3, k0_pay4, k0_pay5]
  simp only [blockAt, d1, d2]

/-- THE BLOCK, at every index: its sixteen stores are sixteen parts of one function. -/
theorem out_eq (x0 : Vec Ideal S32x32x16 .i32) (x1 : Vec Ideal S32x32x640 .f32) (x2 : Vec Ideal S128x128 .f32)
    (x3 : Vec Ideal S32x2048 .f32) (y : S32x32x2048.Idx) :
    out0_4 x0 x1 x2 x3 y = blockAt x0 x1 x2 x3 (y 0) (y 1) (y 2) := by
  unfold out0_4
  refine View.canon_apply_of_pieces (Val := Elt Ideal) (e := .f32) (fun y : S32x32x2048.Idx => blockAt x0 x1 x2 x3 (y 0) (y 1) (y 2)) _ ?_ y
    (cover0_4 _ _ _ _ _ _ _ _ _ _ _ _ _ _ _ _ y)
  simp only [List.forall_mem_cons]
  refine ⟨fun x => ?_, fun x => ?_, fun x => ?_, fun x => ?_, fun x => ?_, fun x => ?_, fun x => ?_, fun x => ?_,
    fun x => ?_, fun x => ?_, fun x => ?_, fun x => ?_, fun x => ?_, fun x => ?_, fun x => ?_, fun x => ?_, by simp⟩
  · exact step_eq_blockAt 15 (by decide) (by decide) (by decide) (by decide) _ x0 x1 x2 x3 x
  · exact step_eq_blockAt 14 (by decide) (by decide) (by decide) (by decide) _ x0 x1 x2 x3 x
  · exact step_eq_blockAt 13 (by decide) (by decide) (by decide) (by decide) _ x0 x1 x2 x3 x
  · exact step_eq_blockAt 12 (by decide) (by decide) (by decide) (by decide) _ x0 x1 x2 x3 x
  · exact step_eq_blockAt 11 (by decide) (by decide) (by decide) (by decide) _ x0 x1 x2 x3 x
  · exact step_eq_blockAt 10 (by decide) (by decide) (by decide) (by decide) _ x0 x1 x2 x3 x
  · exact step_eq_blockAt 9 (by decide) (by decide) (by decide) (by decide) _ x0 x1 x2 x3 x
  · exact step_eq_blockAt 8 (by decide) (by decide) (by decide) (by decide) _ x0 x1 x2 x3 x
  · exact step_eq_blockAt 7 (by decide) (by decide) (by decide) (by decide) _ x0 x1 x2 x3 x
  · exact step_eq_blockAt 6 (by decide) (by decide) (by decide) (by decide) _ x0 x1 x2 x3 x
  · exact step_eq_blockAt 5 (by decide) (by decide) (by decide) (by decide) _ x0 x1 x2 x3 x
  · exact step_eq_blockAt 4 (by decide) (by decide) (by decide) (by decide) _ x0 x1 x2 x3 x
  · exact step_eq_blockAt 3 (by decide) (by decide) (by decide) (by decide) _ x0 x1 x2 x3 x
  · exact step_eq_blockAt 2 (by decide) (by decide) (by decide) (by decide) _ x0 x1 x2 x3 x
  · exact step_eq_blockAt 1 (by decide) (by decide) (by decide) (by decide) _ x0 x1 x2 x3 x
  · exact step_eq_blockAt 0 (by decide) (by decide) (by decide) (by decide) _ x0 x1 x2 x3 x

end Cert.Proof.Block

end
-- ==== Proof.Equation.lean ====
/- THE KERNEL'S BLOCK IS THE EMBEDDING. A block's input holds two tokens to a word and 32 positions to a row. Entry
   `(i, r, j)` of the block is then feature `j % 64` at position `32 r + j / 64`. -/
module

public import proofs.«01_k».proof.Proof.Spec
public import proofs.«01_k».proof.Proof.Pair
public import proofs.«01_k».proof.Proof.Block

@[expose] public section

set_option maxRecDepth 16384

noncomputable section

namespace Cert.Proof.Equation

open Idealize.ShloMosaic Cert.KernelIdeal Cert.KernelIdeal.Gen Cert.Proof.Block Cert.Proof.Pair Cert.Proof.Spec

/-- Entry `(i, r, j)` of a block whose row `i` holds sequence `b`. -/
theorem blockAt_eq (x0 : Vec Ideal S32x32x16 .i32) (x1 : Vec Ideal S32x32x640 .f32) (x2 : Vec Ideal S128x128 .f32)
    (x3 : Vec Ideal S32x2048 .f32) (t : Fin 1024 → Fin 1024 → Fin 21) (prof : Fin 1024 → Fin 1024 → Fin 20 → EReal)
    (tbl : FVec Ideal S21x44 .f32) (pos : Fin 1024 → Fin 64 → EReal) (b : Fin 1024) (i r : Fin 32) (j : Fin 2048)
    (h0 : ∀ k : Fin 16, x0 (ix3 i r k)
      = pack (t b ⟨(r.val * 16 + k.val) * 2 + 0, by omega⟩) (t b ⟨(r.val * 16 + k.val) * 2 + 1, by omega⟩))
    (h1 : ∀ k : Fin 640, x1 (ix3 i r k) = prof b ⟨r.val * 32 + k.val / 20, by omega⟩ ⟨k.val % 20, by omega⟩)
    (h2 : x2 = Matrix.matrix tbl)
    (h3 : ∀ k : Fin 2048, x3 (ix2 r k) = pos ⟨r.val * 32 + k.val / 64, by omega⟩ ⟨k.val % 64, by omega⟩) :
    blockAt x0 x1 x2 x3 i r j
      = embed t prof (fun s f => tbl (ix2 s f)) pos b ⟨r.val * 32 + j.val / 64, by omega⟩ ⟨j.val % 64, by omega⟩ := by
  unfold blockAt
  rw [h0, h3, h2]
  refine (congrArg (· + _) (show _ = dotColumn tbl
    (t b ⟨(r.val * 16 + j.val / 128) * 2 + 0, by omega⟩) (t b ⟨(r.val * 16 + j.val / 128) * 2 + 1, by omega⟩)
    (fun g => prof b ⟨r.val * 32 + (40 * (j.val / 128) + g.val) / 20, by omega⟩ ⟨(40 * (j.val / 128) + g.val) % 20, by omega⟩)
    ⟨j.val % 128, by omega⟩ from ?_)).trans ?_
  · simp only [h1]
    rfl
  · by_cases c1 : j.val % 128 < 44
    · have eq : (⟨j.val % 128, by omega⟩ : Fin 128) = ⟨(⟨j.val % 128, c1⟩ : Fin 44).val, by dsimp only; omega⟩ := rfl
      have ef : (⟨j.val % 64, by omega⟩ : Fin 64) = ⟨(⟨j.val % 128, c1⟩ : Fin 44).val, by dsimp only; omega⟩ :=
        Fin.ext (by dsimp only; omega)
      have el : (⟨r.val * 32 + j.val / 64, by omega⟩ : Fin 1024) = ⟨(r.val * 16 + j.val / 128) * 2 + 0, by omega⟩ :=
        Fin.ext (by dsimp only; omega)
      rw [eq, dot_low, ef, embed_token, el]
    · by_cases c2 : j.val % 128 < 64
      · have eq : (⟨j.val % 128, by omega⟩ : Fin 128) = ⟨44 + (⟨j.val % 128 - 44, by omega⟩ : Fin 20).val, by dsimp only; omega⟩ :=
          Fin.ext (by dsimp only; omega)
        have ef : (⟨j.val % 64, by omega⟩ : Fin 64) = ⟨44 + (⟨j.val % 128 - 44, by omega⟩ : Fin 20).val, by dsimp only; omega⟩ :=
          Fin.ext (by dsimp only; omega)
        rw [eq, dot_prof_low, ef, embed_prof]
        refine congrArg (· + _) (congrArg₂ (prof b) (Fin.ext ?_) (Fin.ext ?_)) <;> dsimp only <;> omega
      · by_cases c3 : j.val % 128 < 108
        · have eq : (⟨j.val % 128, by omega⟩ : Fin 128) = ⟨64 + (⟨j.val % 128 - 64, by omega⟩ : Fin 44).val, by dsimp only; omega⟩ :=
            Fin.ext (by dsimp only; omega)
          have ef : (⟨j.val % 64, by omega⟩ : Fin 64) = ⟨(⟨j.val % 128 - 64, by omega⟩ : Fin 44).val, by dsimp only; omega⟩ :=
            Fin.ext (by dsimp only; omega)
          have el : (⟨r.val * 32 + j.val / 64, by omega⟩ : Fin 1024) = ⟨(r.val * 16 + j.val / 128) * 2 + 1, by omega⟩ :=
            Fin.ext (by dsimp only; omega)
          rw [eq, dot_high, ef, embed_token, el]
        · have eq : (⟨j.val % 128, by omega⟩ : Fin 128) = ⟨108 + (⟨j.val % 128 - 108, by omega⟩ : Fin 20).val, by dsimp only; omega⟩ :=
            Fin.ext (by dsimp only; omega)
          have ef : (⟨j.val % 64, by omega⟩ : Fin 64) = ⟨44 + (⟨j.val % 128 - 108, by omega⟩ : Fin 20).val, by dsimp only; omega⟩ :=
            Fin.ext (by dsimp only; omega)
          rw [eq, dot_prof_high, ef, embed_prof]
          refine congrArg (· + _) (congrArg₂ (prof b) (Fin.ext ?_) (Fin.ext ?_)) <;> dsimp only <;> omega

end Cert.Proof.Equation

end
-- ==== Proof.Array.lean ====
/- WHAT THE KERNEL LEAVES. Each grid point computes 32 sequences' rows, and the points' blocks tile the launch's result;
   the host then reads its [1024, 32, 2048] array as [1024, 1024, 64]. For tokens of the vocabulary the result at an
   index is the embedding there. -/
module

public import proofs.«01_k».proof.Proof.Entry
public import proofs.«01_k».proof.Proof.Equation
public import Idealize.ShloMosaic.Lib.Pipeline.ValueKit

@[expose] public section

set_option maxRecDepth 16384

noncomputable section

namespace Cert.Proof.Array

open Idealize.ShloMosaic Idealize.ShloMosaic.TcCoe Idealize.SL.Sem Cert.KernelIdeal Cert.KernelIdeal.Gen

variable (m : (ℓ : Loc nD τ sig) → Buf (Elt Ideal) ℓ) (c : Dev nD) (t : Fin 1024 → Fin 1024 → Fin 21)

/-- The embedding of the kernel's arguments. -/
def value (b l : Fin 1024) (f : Fin 64) : EReal :=
  Spec.embed t (fun b l g => m ((c.tc : Thread nD τ).loc main_arg1) (ix3 b l g))
    (fun r f => m ((c.tc : Thread nD τ).loc main_arg2) (ix2 r f))
    (fun l f => m ((c.tc : Thread nD τ).loc main_arg3) (ix2 l f)) b l f

/-- Point `p` works on block `p` of the tokens, of the profiles and of the result, and on the whole matrix and position
    table. -/
theorem idx_facts : ∀ p : Fin cfg0.N,
    win0_0.index p = ![p.val, 0, 0] ∧ win0_1.index p = ![p.val, 0, 0] ∧ win0_2.index p = ![0, 0]
      ∧ win0_3.index p = ![0, 0] ∧ win0_4.index p = ![p.val, 0, 0] :=
  (by decide +kernel : ∀ p : Fin grid0.N,
    win0_0.index p = ![p.val, 0, 0] ∧ win0_1.index p = ![p.val, 0, 0] ∧ win0_2.index p = ![0, 0]
      ∧ win0_3.index p = ![0, 0] ∧ win0_4.index p = ![p.val, 0, 0])

/-- The sequence that row `i` of point `p`'s blocks is. -/
def seqOf (p : Fin cfg0.N) (i : Fin 32) : Fin 1024 :=
  ⟨p.val * 32 + i.val, by have h : p.val < 32 := p.isLt; omega⟩

/-! ## The points' input blocks -/

/-- A point's tokens are the launch's, in its 32 sequences. -/
theorem tok_block (p : Fin cfg0.N) (i r : Fin 32) (k : Fin 16) :
    iblk m c 0 p (ix3 i r k) = V m c main_v3 (ix3 (seqOf p i) r k) := by
  obtain ⟨e0, e1, e2, e3, e4⟩ := idx_facts p
  blk_simp [iblk]
  refine congrArg (V m c main_v3) ?_
  blk_ext [e0, seqOf]

/-- So are its profiles. -/
theorem prof_block (p : Fin cfg0.N) (i r : Fin 32) (k : Fin 640) :
    iblk m c 1 p (ix3 i r k) = V m c main_v4 (ix3 (seqOf p i) r k) := by
  obtain ⟨e0, e1, e2, e3, e4⟩ := idx_facts p
  blk_simp [iblk]
  refine congrArg (V m c main_v4) ?_
  blk_ext [e1, seqOf]

/-- Its matrix is the launch's. -/
theorem mat_block (p : Fin cfg0.N) : iblk m c 2 p = V m c main_v28 := by
  obtain ⟨e0, e1, e2, e3, e4⟩ := idx_facts p
  funext x
  blk_simp [iblk]
  refine congrArg (V m c main_v28) ?_
  blk_ext [e2]

/-- So is its position table. -/
theorem pos_block (p : Fin cfg0.N) (r : Fin 32) (k : Fin 2048) :
    iblk m c 3 p (ix2 r k) = V m c main_v5 (ix2 r k) := by
  obtain ⟨e0, e1, e2, e3, e4⟩ := idx_facts p
  blk_simp [iblk]
  refine congrArg (V m c main_v5) ?_
  blk_ext [e3]

/-! ## The launch's result -/

/-- The embedding in the launch's layout, 32 positions to a row. -/
def rows (b : Fin 1024) (r : Fin 32) (j : Fin 2048) : EReal :=
  value m c t b ⟨r.val * 32 + j.val / 64, by omega⟩ ⟨j.val % 64, by omega⟩

/-- What a point computes. -/
theorem point_eq (ht : ∀ b l, m ((c.tc : Thread nD τ).loc main_arg0) (ix2 b l) = BitVec.ofNat 32 (t b l).val)
    (p : Fin cfg0.N) (i r : Fin 32) (j : Fin 2048) :
    out0_4 (iblk m c 0 p) (iblk m c 1 p) (iblk m c 2 p) (iblk m c 3 p) (ix3 i r j) = rows m c t (seqOf p i) r j := by
  refine (Block.out_eq _ _ _ _ _).trans ?_
  refine Equation.blockAt_eq (iblk m c 0 p) (iblk m c 1 p) (iblk m c 2 p) (iblk m c 3 p) t
    (fun b l g => m ((c.tc : Thread nD τ).loc main_arg1) (ix3 b l g)) (m ((c.tc : Thread nD τ).loc main_arg2))
    (fun l f => m ((c.tc : Thread nD τ).loc main_arg3) (ix2 l f)) (seqOf p i) i r j (fun k => ?_) (fun k => ?_) ?_ (fun k => ?_)
  · refine (tok_block m c p i r k).trans ((Entry.tok_entry m c _ r k).trans ?_)
    rw [ht, ht]
    rfl
  · exact (prof_block m c p i r k).trans (Entry.prof_entry m c _ r k)
  · exact (mat_block m c p).trans (Entry.mat_entry m c)
  · exact (pos_block m c p r k).trans (Entry.pos_entry m c r k)

/-- ALL POINTS TOGETHER. -/
theorem final (ht : ∀ b l, m ((c.tc : Thread nD τ).loc main_arg0) (ix2 b l) = BitVec.ofNat 32 (t b l).val) :
    (dats m 0 c).arrAt 4 cfg0.N = fun y : S1024x32x2048.Idx => rows m c t (y 0) (y 1) (y 2) := by
  refine (dats m 0 c).arrAt_eq_of_covers 4 _ (by decide +kernel) fun p hf y => ?_
  obtain ⟨e0, e1, e2, e3, e4⟩ := idx_facts p
  obtain ⟨i, r, j, rfl⟩ : ∃ (i r : Fin 32) (j : Fin 2048), y = ix3 i r j := ⟨y 0, y 1, y 2, eq_ix3 y⟩
  have e : (win0_4.blk p).view.emb (ix3 i r j) = (ix3 (seqOf p i) r j : S1024x32x2048.Idx) := by
    blk_ext [e4, seqOf]
  blk_simp
  rw [after0_4]
  exact (point_eq m c t ht p i r j).trans (congrArg (fun z : S1024x32x2048.Idx => rows m c t (z 0) (z 1) (z 2)) e.symm)

/-! ## The result -/

/-- The host's reading of a [1024, 32, 2048] array as [1024, 1024, 64]. -/
def relaid (x : FVec Ideal S1024x32x2048 .f32) : FVec Ideal S1024x1024x64 .f32 :=
  shapeCast S1024x1024x64 x shapeCasts_S1024x32x2048_S1024x1024x64

/-- Position `l` is found in row `l / 32`, at place `l % 32` of 32. -/
theorem relaid_apply (x : FVec Ideal S1024x32x2048 .f32) (b l : Fin 1024) (f : Fin 64) :
    relaid x (ix3 b l f) = x (ix3 b ⟨l.val / 32, by omega⟩ ⟨l.val % 32 * 64 + f.val, by omega⟩) := by
  pointwise [relaid]

/-- The result. -/
def result : FVec Ideal S1024x1024x64 .f32 := relaid ((dats m 0 c).arrAt 4 cfg0.N)

/-- THE RESULT AT AN INDEX, for tokens of the vocabulary: the embedding. -/
theorem result_apply (ht : ∀ b l, m ((c.tc : Thread nD τ).loc main_arg0) (ix2 b l) = BitVec.ofNat 32 (t b l).val)
    (b l : Fin 1024) (f : Fin 64) : result m c (ix3 b l f) = value m c t b l f := by
  refine (relaid_apply _ b l f).trans ((congrFun (final m c t ht) _).trans ?_)
  refine congrArg₂ (value m c t b) (Fin.ext ?_) (Fin.ext ?_)
  · show l.val / 32 * 32 + (l.val % 32 * 64 + f.val) / 64 = l.val
    omega
  · show (l.val % 32 * 64 + f.val) % 64 = f.val
    omega

/-- The operation after the launch makes it. -/
theorem tail_eq : Pipeline.afterTail₀ cfgs (dats m) 0 (V0 m) [hostOps1] c main_v30 = result m c := by
  unfold Pipeline.afterTail₀
  simp only [hostOps1, List.flatten_cons, List.flatten_nil, List.cons_append, List.nil_append]
  after_results
  exact congrArg relaid (Pipeline.withArrays_arr spec0 winFacts0.arr_inj c (V0 m c) (fun w => (dats m 0 c).arrAt w cfg0.N) 4)

/-- THE KERNEL'S RUN: the result, and the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v30) = result m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  (θ_run defs _ _).mono (fun _ h c =>
      ⟨((h c).2 main_v30 (Pipeline.mem_restRefs_of main_v30 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c)⟩)
    (run_main m ρ)

end Cert.Proof.Array

end
-- ==== Proof.Ref.lean ====
/- WHAT THE REFERENCE COMPUTES. Its two row look-ups guard against row numbers out of range: a negative number counts
   from the table's end, and a number that is still out of range makes a row of NaNs. For tokens of the vocabulary, and
   for the positions 0 to 1023, neither guard acts, so that the result at an index is the embedding there. -/
module

public import proofs.«01_k».proof.Proof.Spec
public import proofs.«01_k».proof.Proof.Gen.ReferenceIdeal.Run
public import Idealize.ShloMosaic.Lib.Pointwise
public import Idealize.ShloMosaic.Lib.StableHlo.Predicate

@[expose] public section

set_option maxRecDepth 16384

noncomputable section

namespace Cert.Proof.Ref

open Idealize.ShloMosaic Cert.ReferenceIdeal Cert.ReferenceIdeal.Gen

/-! ## The token table's rows -/

/-- The row numbers looked up in the token table, a negative one counted from the table's end. -/
def tokRows (seq : IVec S1024x1024 32) : IVec S1024x1024x1 32 :=
  broadcastInDim S1024x1024x1 ![0, 1] bcast_S1024x1024_S1024x1024x1_0_1
    (select (cmpi .slt seq (broadcastInDim S1024x1024 ![] bcast_S_S1024x1024 (constantI S_ 32 0#32)))
      (addi seq (broadcastInDim S1024x1024 ![] bcast_S_S1024x1024 (constantI S_ 32 21#32))) seq)

/-- Where a row number is in range. -/
def tokMask (v : IVec S1024x1024x1 32) : IVec S1024x1024 1 :=
  Host.reduce IntOp.andi
    (andi (cmpi .sge v (broadcastInDim S1024x1024x1 ![] bcast_S_S1024x1024x1 (constantI S_ 32 0#32)))
      (cmpi .sle v (broadcastInDim S1024x1024x1 ![0, 1, 2] bcast_S1x1x1_S1024x1024x1_0_1_2
        (broadcastInDim S1x1x1 ![2] bcast_S1_S1x1x1_2 (constantI S1 32 20#32)))))
    (constantI S_ 1 1#1) reducesTo_S1024x1024x1_S1024x1024_d2 h_S_

/-- A token of the vocabulary is its own row number. -/
theorem tok_word : ∀ t : Fin 21, Scalar.select (IntOp.cmpi .slt (BitVec.ofNat 32 t.val) 0#32)
    (IntOp.addi (BitVec.ofNat 32 t.val) 21#32) (BitVec.ofNat 32 t.val) = BitVec.ofNat 32 t.val := by
  decide +kernel

/-- It is in range. -/
theorem tok_in_range : ∀ t : Fin 21, IntOp.andi (IntOp.andi (IntOp.cmpi .sge (BitVec.ofNat 32 t.val) 0#32)
    (IntOp.cmpi .sle (BitVec.ofNat 32 t.val) 20#32)) 1#1 = 1#1 := by
  decide +kernel

/-- For a token of the vocabulary the row number is the token. -/
theorem tokRows_apply (seq : IVec S1024x1024 32) (b l : Fin 1024) (z : Fin 1) (t : Fin 21)
    (h : seq (ix2 b l) = BitVec.ofNat 32 t.val) : tokRows seq (ix3 b l z) = BitVec.ofNat 32 t.val := by
  pointwise [tokRows]
  rw [h, tok_word]

/-- Where the row numbers are tokens of the vocabulary, the range guard says yes. -/
theorem tokMask_apply (v : IVec S1024x1024x1 32) (b l : Fin 1024) (t : Fin 21)
    (h : ∀ z, v (ix3 b l z) = BitVec.ofNat 32 t.val) : tokMask v (ix2 b l) = 1#1 := by
  pointwise [tokMask]
  simp only [h, Finset.univ_unique, Finset.fold_singleton]
  exact tok_in_range t

/-- The look-up takes the row that the number names. -/
theorem tok_take (tbl : FVec Ideal S21x44 .f32) (v : IVec S1024x1024x1 32) (b l : Fin 1024) (f : Fin 44) (t : Fin 21)
    (h : v (ix3 b l 0) = BitVec.ofNat 32 t.val) :
    Host.gather gather_S21x44_S1024x1024x1_S1024x1024x44_2_0_n_n_0_2_144 tbl v (ix3 b l f) = tbl (ix2 t f) := by
  refine congrArg tbl (funext fun a => Fin.ext ?_)
  match a with
  | ⟨0, _⟩ =>
    have e : gather_S21x44_S1024x1024x1_S1024x1024x44_2_0_n_n_0_2_144.siIdx (ix3 b l f) ⟨0, Nat.one_pos⟩ = ix3 b l 0 :=
      funext fun k => match k with | ⟨0, _⟩ => rfl | ⟨1, _⟩ => rfl | ⟨2, _⟩ => rfl
    show min (v (gather_S21x44_S1024x1024x1_S1024x1024x44_2_0_n_n_0_2_144.siIdx (ix3 b l f) ⟨0, Nat.one_pos⟩)).toInt.toNat 20 + 0 + 0 = t.val
    rw [e, h, StableHlo.Predicate.toInt_ofNat_small _ (by omega)]
    omega
  | ⟨1, _⟩ => exact (Nat.zero_add _ : 0 + 0 + f.val = f.val)

/-! ## The position table's rows -/

/-- The row numbers looked up in the position table. -/
def posRows : IVec S1024x1 32 :=
  broadcastInDim S1024x1 ![0] bcast_S1024_S1024x1_0
    (select (cmpi .slt (iotaInDim S1024 32 0) (broadcastInDim S1024 ![] bcast_S_S1024 (constantI S_ 32 0#32)))
      (addi (iotaInDim S1024 32 0) (broadcastInDim S1024 ![] bcast_S_S1024 (constantI S_ 32 1024#32))) (iotaInDim S1024 32 0))

/-- Where a row number is in range. -/
def posMask (v : IVec S1024x1 32) : IVec S1024 1 :=
  Host.reduce IntOp.andi
    (andi (cmpi .sge v (broadcastInDim S1024x1 ![] bcast_S_S1024x1 (constantI S_ 32 0#32)))
      (cmpi .sle v (broadcastInDim S1024x1 ![0, 1] bcast_S1x1_S1024x1_0_1
        (broadcastInDim S1x1 ![1] bcast_S1_S1x1_1 (constantI S1 32 1023#32)))))
    (constantI S_ 1 1#1) reducesTo_S1024x1_S1024_d1 h_S_

/-- A position is its own row number. -/
theorem pos_word : ∀ l : Fin 1024, Scalar.select (IntOp.cmpi .slt (BitVec.ofNat 32 l.val) 0#32)
    (IntOp.addi (BitVec.ofNat 32 l.val) 1024#32) (BitVec.ofNat 32 l.val) = BitVec.ofNat 32 l.val := by
  decide +kernel

/-- It is in range. -/
theorem pos_in_range : ∀ l : Fin 1024, IntOp.andi (IntOp.andi (IntOp.cmpi .sge (BitVec.ofNat 32 l.val) 0#32)
    (IntOp.cmpi .sle (BitVec.ofNat 32 l.val) 1023#32)) 1#1 = 1#1 := by
  decide +kernel

/-- The row number of a position is the position. -/
theorem posRows_apply (l : Fin 1024) (z : Fin 1) : posRows (ix2 l z) = BitVec.ofNat 32 l.val := by
  pointwise [posRows]
  rw [pos_word]

/-- The range guard says yes at every position. -/
theorem posMask_apply (l : Fin 1024) : posMask posRows (ix1 l) = 1#1 := by
  pointwise [posMask]
  simp only [posRows_apply, Finset.univ_unique, Finset.fold_singleton]
  exact pos_in_range l

/-- The look-up takes the position's row. -/
theorem pos_take (tbl : FVec Ideal S1024x64 .f32) (l : Fin 1024) (f : Fin 64) :
    Host.gather gather_S1024x64_S1024x1_S1024x64_1_0_n_n_0_1_164 tbl posRows (ix2 l f) = tbl (ix2 l f) := by
  refine congrArg tbl (funext fun a => Fin.ext ?_)
  match a with
  | ⟨0, _⟩ =>
    have e : gather_S1024x64_S1024x1_S1024x64_1_0_n_n_0_1_164.siIdx (ix2 l f) ⟨0, Nat.one_pos⟩ = ix2 l 0 :=
      funext fun k => match k with | ⟨0, _⟩ => rfl | ⟨1, _⟩ => rfl
    show min (posRows (gather_S1024x64_S1024x1_S1024x64_1_0_n_n_0_1_164.siIdx (ix2 l f) ⟨0, Nat.one_pos⟩)).toInt.toNat 1023 + 0 + 0 = l.val
    rw [e, posRows_apply, StableHlo.Predicate.toInt_ofNat_small _ (by omega)]
    omega
  | ⟨1, _⟩ => exact (Nat.zero_add _ : 0 + 0 + f.val = f.val)

/-! ## The result -/

/-- The reference's result. -/
def result (seq : IVec S1024x1024 32) (prof : FVec Ideal S1024x1024x20 .f32) (tbl : FVec Ideal S21x44 .f32)
    (pos : FVec Ideal S1024x64 .f32) : FVec Ideal S1024x1024x64 .f32 :=
  addf
    (concatenate S1024x1024x64 2
      [⟨S1024x1024x44, select (broadcastInDim S1024x1024x44 ![0, 1] bcast_S1024x1024_S1024x1024x44_0_1 (tokMask (tokRows seq)))
          (Host.gather gather_S21x44_S1024x1024x1_S1024x1024x44_2_0_n_n_0_2_144 tbl (tokRows seq))
          (broadcastInDim S1024x1024x44 ![] bcast_S_S1024x1024x44 (constant S_ .f32 0x7FC00000#32))⟩,
        ⟨S1024x1024x20, prof⟩] concatenates_S1024x1024x44_S1024x1024x20_S1024x1024x64_d2)
    (broadcastInDim S1024x1024x64 ![0, 1, 2] bcast_S1x1024x64_S1024x1024x64_0_1_2
      (broadcastInDim S1x1024x64 ![1, 2] bcast_S1024x64_S1x1024x64_1_2
        (select (broadcastInDim S1024x64 ![0] bcast_S1024_S1024x64_0 (posMask posRows))
          (Host.gather gather_S1024x64_S1024x1_S1024x64_1_0_n_n_0_1_164 pos posRows)
          (broadcastInDim S1024x64 ![] bcast_S_S1024x64 (constant S_ .f32 0x7FC00000#32)))))

/-- THE REFERENCE AT AN INDEX, for tokens of the vocabulary: the embedding. -/
theorem result_apply (seq : IVec S1024x1024 32) (prof : FVec Ideal S1024x1024x20 .f32) (tbl : FVec Ideal S21x44 .f32)
    (pos : FVec Ideal S1024x64 .f32) (t : Fin 1024 → Fin 1024 → Fin 21)
    (ht : ∀ b l, seq (ix2 b l) = BitVec.ofNat 32 (t b l).val) (b l : Fin 1024) (f : Fin 64) :
    (result seq prof tbl pos (ix3 b l f) : EReal)
      = Spec.embed t (fun b l g => prof (ix3 b l g)) (fun r f => tbl (ix2 r f)) (fun l f => pos (ix2 l f)) b l f := by
  have hr := fun z => tokRows_apply seq b l z (t b l) (ht b l)
  pointwise [result]
  rw [posMask_apply, tokMask_apply _ b l (t b l) hr, pos_take]
  refine congrArg₂ (· + ·) (dite_congr rfl (fun h => (if_pos rfl).trans ?_) fun _ => rfl) (if_pos rfl)
  exact tok_take tbl _ b l ⟨f.val, h⟩ (t b l) (hr 0)

open Idealize.ShloMosaic.TcCoe Idealize.SL.Sem in
/-- The reference runs to its result and leaves its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6)
          = result (m ((c.tc : Thread nD τ).loc main_arg0)) (m ((c.tc : Thread nD τ).loc main_arg1))
              (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  Cert.ReferenceIdeal.Value.run m ρ

end Cert.Proof.Ref

end
-- ==== Proof.Vocab.lean ====
/- THE PRECONDITION. Where the predicate holds at a token, the token's word is the word of one of the numbers 0 to 20. -/
module

public import proofs.«01_k».proof.Pre_tokens_in_vocab
public import proofs.«01_k».proof.Proof.Gen.Pre_tokens_in_vocab
public import Idealize.ShloMosaic.Lib.Pointwise

@[expose] public section

noncomputable section

namespace Cert.Proof.Vocab

open Idealize.ShloMosaic Cert.Pre_tokens_in_vocab

/-- A word that is at least 0 and less than 21, read signed, is the word of a number below 21. -/
theorem word_in_vocab (w : BitVec 32) (h : IntOp.andi (IntOp.cmpi .sge w 0#32) (IntOp.cmpi .slt w 21#32) = 1#1) :
    ∃ t : Fin 21, w = BitVec.ofNat 32 t.val := by
  have h' : w.toNat < 21 := by
    simp only [IntOp.andi, IntOp.cmpi] at h
    by_contra hn
    have : ¬ (BitVec.sle 0#32 w = true ∧ BitVec.slt w 21#32 = true) := by
      rw [BitVec.sle_iff_toInt_le, BitVec.slt_iff_toInt_lt]
      have h0 : (0#32).toInt = 0 := by decide
      have h21 : (21#32).toInt = 21 := by decide
      rw [h0, h21, BitVec.toInt_eq_toNat_cond]
      split <;> omega
    rcases a : BitVec.sle 0#32 w <;> rcases b : BitVec.slt w 21#32 <;> simp_all
  exact ⟨⟨w.toNat, h'⟩, by simp⟩

/-- The tokens of an input that satisfies the predicate. -/
theorem tokens (seq : IVec S1024x1024 32) (prof : FVec Ideal S1024x1024x20 .f32) (tbl : FVec Ideal S21x44 .f32)
    (pos : FVec Ideal S1024x64 .f32) (h : fn (F := Ideal) seq prof tbl pos = fun _ => 1#1) :
    ∃ t : Fin 1024 → Fin 1024 → Fin 21, ∀ b l, seq (ix2 b l) = BitVec.ofNat 32 (t b l).val := by
  have at_word : ∀ b l : Fin 1024, ∃ t : Fin 21, seq (ix2 b l) = BitVec.ofNat 32 t.val := fun b l => by
    have hb := congrFun h (ix2 b l)
    pointwise [fn] at hb
    exact word_in_vocab _ hb
  choose t ht using at_word
  exact ⟨t, ht⟩

end Cert.Proof.Vocab

end
-- ==== Proof.lean ====
/- The claim: the kernel and its idealization run and leave their arguments as they were, the idealization is the kernel's
   own text, and for tokens of the vocabulary the kernel's result is the reference's, both being the embedding of
   Proof/Spec.lean. Proof/Array.lean says what the kernel leaves, Proof/Ref.lean what the reference computes. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_tokens_in_vocab
public import proofs.«01_k».proof.Proof.Array
public import proofs.«01_k».proof.Proof.Ref
public import proofs.«01_k».proof.Proof.Vocab
public import Idealize.ShloMosaic.Lib.Claim
public import Idealize.ShloMosaic.Adequacy
public import Idealize.ShloMosaic.Init

@[expose] public section

noncomputable section

namespace Cert.Proof

open Idealize.ShloMosaic Idealize.SL.Sem

/-- The two results are one array, for tokens of the vocabulary. -/
theorem result_eq (m : (ℓ : Loc Cert.KernelIdeal.nD Cert.KernelIdeal.τ Cert.KernelIdeal.sig) → Buf (Elt Ideal) ℓ)
    (h : Cert.Pre_KernelIdeal_tokens_in_vocab m) (c : Dev Cert.KernelIdeal.nD) :
    Ref.result (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = Array.result m c := by
  obtain ⟨t, ht⟩ := Vocab.tokens _ _ _ _ (h c)
  funext y
  obtain ⟨b, l, f, rfl⟩ : ∃ (b l : Fin 1024) (f : Fin 64), y = ix3 b l f := ⟨y 0, y 1, y 2, eq_ix3 y⟩
  exact (Ref.result_apply _ _ _ _ t ht b l f).trans (Array.result_apply m c t ht b l f).symm

/-- The kernel's result is the reference's. -/
theorem results : Cert.algebraic_KernelIdeal_ReferenceIdeal_pre_tokens_in_vocab := by
  intro m g m' g' hpre hagree
  refine ⟨fun c => Array.result m c, Array.run m g, ?_⟩
  refine (θ_run _ _ _).mono (fun r h c => ⟨(h c).1.trans ?_, (h c).2⟩) (Ref.run m' g')
  obtain ⟨h0, h1, h2, h3⟩ := hagree c
  rw [h0, h1, h2, h3]
  exact result_eq m hpre c

/-- The reference runs and leaves its arguments as they were. -/
theorem reference_frame : Cert.quiescent_ReferenceIdeal := fun m g _ =>
  (θ_run _ _ _).mono (fun r h => ⟨fun c => (h c).2, Idealize.ShloMosaic.sem_eq_zero_of_no_sems (by decide) r.2⟩) (Ref.run m g)

/-- THE CLAIM: the three frames, the idealization, and the equation of the results. -/
theorem claim : Cert.Claim :=
  ⟨Cert.Kernel.Gen.facts, Cert.KernelIdeal.Gen.facts, Cert.ReferenceIdeal.Gen.facts, Cert.Pre_tokens_in_vocab.Gen.facts,
    fun m g _ => Cert.Kernel.Gen.frame m g, fun m g _ => Cert.KernelIdeal.Gen.frame m g,
    fun m g _ => Cert.KernelIdeal.Gen.frame m g, reference_frame, fun m g _ => reference_frame m g trivial,
    trivial, results⟩

end Cert.Proof

end
